-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x768 : Shape := ⟨3, ![4, 4096, 768]⟩
abbrev S768x4x8 : Shape := ⟨3, ![768, 4, 8]⟩
abbrev S4x8x768 : Shape := ⟨3, ![4, 8, 768]⟩
abbrev S16384x768 : Shape := ⟨2, ![16384, 768]⟩
abbrev S768x32 : Shape := ⟨2, ![768, 32]⟩
abbrev S32x768 : Shape := ⟨2, ![32, 768]⟩
abbrev S4096x768 : Shape := ⟨2, ![4096, 768]⟩
abbrev S32x4096 : Shape := ⟨2, ![32, 4096]⟩
abbrev S4x8x4096 : Shape := ⟨3, ![4, 8, 4096]⟩
abbrev S4x4096 : Shape := ⟨2, ![4, 4096]⟩
abbrev S4x1x4096 : Shape := ⟨3, ![4, 1, 4096]⟩

abbrev nBuf : Space → Nat
  | .hbm => 8
  | .vmem => 6
  | .smem => 0
  | _ => 0

abbrev bufTy : (tb : Table) → Fin (tcTables nBuf tb) → BufTy
  | .hbm, ⟨0, _⟩ => ⟨S4x4096x768, .f32⟩
  | .hbm, ⟨1, _⟩ => ⟨S768x4x8, .f32⟩
  | .hbm, ⟨2, _⟩ => ⟨S4x8x768, .f32⟩
  | .hbm, ⟨3, _⟩ => ⟨S16384x768, .f32⟩
  | .hbm, ⟨4, _⟩ => ⟨S768x32, .f32⟩
  | .hbm, ⟨5, _⟩ => ⟨S32x768, .f32⟩
  | .hbm, ⟨6, _⟩ => ⟨S16384x768, .f32⟩
  | .hbm, ⟨7, _⟩ => ⟨S4x4096x768, .f32⟩
  | .local _ .vmem, ⟨0, _⟩ => ⟨S4096x768, .f32⟩
  | .local _ .vmem, ⟨1, _⟩ => ⟨S4096x768, .f32⟩
  | .local _ .vmem, ⟨2, _⟩ => ⟨S768x32, .f32⟩
  | .local _ .vmem, ⟨3, _⟩ => ⟨S32x768, .f32⟩
  | .local _ .vmem, ⟨4, _⟩ => ⟨S4096x768, .f32⟩
  | .local _ .vmem, ⟨5, _⟩ => ⟨S4096x768, .f32⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4x4096x768 : Shape := ⟨3, ![4, 4096, 768]⟩
abbrev S768x4x8 : Shape := ⟨3, ![768, 4, 8]⟩
abbrev S4x8x768 : Shape := ⟨3, ![4, 8, 768]⟩
abbrev S16384x768 : Shape := ⟨2, ![16384, 768]⟩
abbrev S768x32 : Shape := ⟨2, ![768, 32]⟩
abbrev S16384x32 : Shape := ⟨2, ![16384, 32]⟩
abbrev S16384x4x8 : Shape := ⟨3, ![16384, 4, 8]⟩
abbrev S16384x4x1 : Shape := ⟨3, ![16384, 4, 1]⟩
abbrev S16384 : Shape := ⟨1, ![16384]⟩
abbrev S16384x1x1 : Shape := ⟨3, ![16384, 1, 1]⟩
abbrev S4 : Shape := ⟨1, ![4]⟩
abbrev S1x4x1 : Shape := ⟨3, ![1, 4, 1]⟩
abbrev S_ : Shape := ⟨0, ![]⟩
abbrev S16384x4x1x1 : Shape := ⟨4, ![16384, 4, 1, 1]⟩
abbrev S16384x4x1x3 : Shape := ⟨4, ![16384, 4, 1, 3]⟩
abbrev S32x768 : Shape := ⟨2, ![32, 768]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S768x4x8, .f32⟩
  | .hbm, ⟨2, _⟩ => ⟨S4x8x768, .f32⟩
  | .hbm, ⟨3, _⟩ => ⟨S16384x768, .f32⟩
  | .hbm, ⟨4, _⟩ => ⟨S768x32, .f32⟩
  | .hbm, ⟨5, _⟩ => ⟨S16384x32, .f32⟩
  | .hbm, ⟨6, _⟩ => ⟨S16384x4x8, .f32⟩
  | .hbm, ⟨7, _⟩ => ⟨S16384x4x1, .f32⟩
  | .hbm, ⟨8, _⟩ => ⟨S16384x4x1, .i32⟩
  | .hbm, ⟨9, _⟩ => ⟨S16384, .i32⟩
  | .hbm, ⟨10, _⟩ => ⟨S16384x1x1, .i32⟩
  | .hbm, ⟨11, _⟩ => ⟨S4, .i32⟩
  | .hbm, ⟨12, _⟩ => ⟨S1x4x1, .i32⟩
  | .hbm, ⟨13, _⟩ => ⟨S_, .f32⟩
  | .hbm, ⟨14, _⟩ => ⟨S16384x4x8, .f32⟩
  | .hbm, ⟨15, _⟩ => ⟨S_, .i32⟩
  | .hbm, ⟨16, _⟩ => ⟨S16384x1x1, .i32⟩
  | .hbm, ⟨17, _⟩ => ⟨S16384x1x1, .i1⟩
  | .hbm, ⟨18, _⟩ => ⟨S_, .i32⟩
  | .hbm, ⟨19, _⟩ => ⟨S16384x1x1, .i32⟩
  | .hbm, ⟨20, _⟩ => ⟨S16384x1x1, .i32⟩
  | .hbm, ⟨21, _⟩ => ⟨S16384x1x1, .i32⟩
  | .hbm, ⟨22, _⟩ => ⟨S_, .i32⟩
  | .hbm, ⟨23, _⟩ => ⟨S1x4x1, .i32⟩
  | .hbm, ⟨24, _⟩ => ⟨S1x4x1, .i1⟩
  | .hbm, ⟨25, _⟩ => ⟨S_, .i32⟩
  | .hbm, ⟨26, _⟩ => ⟨S1x4x1, .i32⟩
  | .hbm, ⟨27, _⟩ => ⟨S1x4x1, .i32⟩
  | .hbm, ⟨28, _⟩ => ⟨S1x4x1, .i32⟩
  | .hbm, ⟨29, _⟩ => ⟨S_, .i32⟩
  | .hbm, ⟨30, _⟩ => ⟨S16384x4x1, .i32⟩
  | .hbm, ⟨31, _⟩ => ⟨S16384x4x1, .i1⟩
  | .hbm, ⟨32, _⟩ => ⟨S_, .i32⟩
  | .hbm, ⟨33, _⟩ => ⟨S16384x4x1, .i32⟩
  | .hbm, ⟨34, _⟩ => ⟨S16384x4x1, .i32⟩
  | .hbm, ⟨35, _⟩ => ⟨S16384x4x1, .i32⟩
  | .hbm, ⟨36, _⟩ => ⟨S16384x4x1, .i32⟩
  | .hbm, ⟨37, _⟩ => ⟨S16384x4x1, .i32⟩
  | .hbm, ⟨38, _⟩ => ⟨S16384x4x1x1, .i32⟩
  | .hbm, ⟨39, _⟩ => ⟨S16384x4x1x1, .i32⟩
  | .hbm, ⟨40, _⟩ => ⟨S16384x4x1x1, .i32⟩
  | .hbm, ⟨41, _⟩ => ⟨S16384x4x1x3, .i32⟩
  | .hbm, ⟨42, _⟩ => ⟨S16384x4x8, .f32⟩
  | .hbm, ⟨43, _⟩ => ⟨S16384x32, .f32⟩
  | .hbm, ⟨44, _⟩ => ⟨S32x768, .f32⟩
  | .hbm, ⟨45, _⟩ => ⟨S16384x768, .f32⟩
  | .hbm, ⟨46, _⟩ => ⟨S4x4096x768, .f32⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_values : Ref sig .tc := ⟨.hbm, 7, rfl⟩
abbrev main_indices : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_1 : Ref sig .tc := ⟨.hbm, 22, rfl⟩
abbrev main_v14 : Ref sig .tc := ⟨.hbm, 23, rfl⟩
abbrev main_v15 : Ref sig .tc := ⟨.hbm, 24, rfl⟩
abbrev main_c_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_c_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.Top1.lean ====
/-
  CHOOSING ONE EXPERT OF EIGHT: the pure facts about the selection, away from any array.

  A token gives each of a group's eight experts a score, an extended real. The chosen expert is the first one whose
  score no other exceeds (`IsFirst`), and the gated score (`gate`) is the chosen expert's own score there and zero at the
  other seven. Two descriptions of the same choice are shown to agree with it:

    * the head of the stable sort of the eight positions by descending score (`isFirst_sorted`);
    * the smallest position among those whose score equals the maximum of the eight, a position whose score does not
      being counted as 8 (`least_eq`).
-/
module

public import Idealize.ShloMosaic.Lib.Pointwise
public import Idealize.ShloMosaic.Lib.SortFacts

@[expose] public section

noncomputable section

namespace Cert.Top1

open Idealize.ShloMosaic

/-- Expert `e` is the first whose score no other exceeds: every score is at most `e`'s, every earlier one is less. -/
def IsFirst (g : Fin 8 → EReal) (e : Fin 8) : Prop := (∀ e', g e' ≤ g e) ∧ ∀ e', e' < e → g e' < g e

/-- At most one expert is the first. -/
theorem IsFirst.unique {g : Fin 8 → EReal} {a b : Fin 8} (ha : IsFirst g a) (hb : IsFirst g b) : a = b := by
  rcases lt_trichotomy a b with h | h | h
  · exact absurd (ha.1 b) (not_le.mpr (hb.2 a h))
  · exact h
  · exact absurd (hb.1 a) (not_le.mpr (ha.2 b h))

open Classical in
/-- The gated score of expert `e`: its score if it is the chosen one, zero if it is not. -/
def gate (g : Fin 8 → EReal) (e : Fin 8) : EReal := if IsFirst g e then g e else 0

/-- The gated score, once the chosen expert `a` is known. -/
theorem gate_eq {g : Fin 8 → EReal} {a : Fin 8} (ha : IsFirst g a) (e : Fin 8) : gate g e = if e = a then g e else 0 := by
  unfold gate
  by_cases h : e = a
  · rw [if_pos h, if_pos (h ▸ ha)]
  · rw [if_neg h, if_neg fun he => h (he.unique ha)]

/-! ## The stable sort by descending score -/

/-- The order of two positions by descending score. -/
abbrev before (g : Fin 8 → EReal) (a b : Fin 8) : Bool := decide (g b < g a)

/-- The stable sort by descending score of a list of positions in increasing order, when not empty, starts with a
    position of the list whose score no other exceeds and every earlier one falls short of. -/
theorem stableSort_head (g : Fin 8 → EReal) (l : List (Fin 8)) (hl : l.Pairwise (· < ·)) (hne : l ≠ []) :
    ∃ h t, stableSort (before g) l = h :: t ∧ h ∈ l ∧ ∀ x ∈ l, g x ≤ g h ∧ (x < h → g x < g h) := by
  induction l with
  | nil => exact absurd rfl hne
  | cons a l ih =>
    rw [List.pairwise_cons] at hl
    by_cases hl0 : l = []
    · subst hl0
      refine ⟨a, [], rfl, List.mem_cons_self, fun x hx => ?_⟩
      obtain rfl := List.mem_singleton.mp hx
      exact ⟨le_rfl, fun h => absurd h (lt_irrefl _)⟩
    · obtain ⟨h, t, e, hm, hx⟩ := ih hl.2 hl0
      by_cases hlt : g a < g h
      · refine ⟨h, insertBefore (before g) a t, ?_, List.mem_cons_of_mem _ hm, fun x hxm => ?_⟩
        · rw [stableSort, e, insertBefore, if_pos (by simpa using hlt)]
        · rcases List.mem_cons.mp hxm with rfl | hxm
          · exact ⟨hlt.le, fun _ => hlt⟩
          · exact hx x hxm
      · refine ⟨a, h :: t, ?_, List.mem_cons_self, fun x hxm => ?_⟩
        · rw [stableSort, e, insertBefore, if_neg (by simpa using hlt)]
        · rcases List.mem_cons.mp hxm with rfl | hxm
          · exact ⟨le_rfl, fun h' => absurd h' (lt_irrefl _)⟩
          · exact ⟨(hx x hxm).1.trans (not_lt.mp hlt), fun h' => absurd h' (not_lt.mpr (hl.1 x hxm).le)⟩

/-- The position the stable sort by descending score puts first is the chosen expert. -/
theorem isFirst_sorted (g : Fin 8 → EReal) (k : Fin 8) (hk : k.val = 0) : IsFirst g (sortedFrom (before g) k) := by
  obtain ⟨h, t, e, -, hx⟩ := stableSort_head g (List.finRange 8) (List.pairwise_lt_finRange 8) (by decide)
  have hs : sortedFrom (before g) k = h := by
    obtain rfl : k = 0 := Fin.ext hk
    have e' : sortPositions 8 (before g) = h :: t := e
    unfold sortedFrom
    simp [e']
  rw [hs]
  exact ⟨fun x => (hx x (List.mem_finRange x)).1, fun x => (hx x (List.mem_finRange x)).2⟩

/-- There is a chosen expert. -/
theorem exists_isFirst (g : Fin 8 → EReal) : ∃ e, IsFirst g e := ⟨_, isFirst_sorted g 0 rfl⟩

/-! ## The least position of the maximum -/

/-- The maximum of the eight scores is the chosen expert's. -/
theorem fold_max_eq {g : Fin 8 → EReal} {a : Fin 8} (ha : IsFirst g a) :
    Finset.univ.fold max (⊥ : EReal) g = g a := by
  refine le_antisymm ((Finset.fold_max_le _).mpr ⟨bot_le, fun x _ => ha.1 x⟩) ((Finset.le_fold_max _).mpr (.inr ⟨a, Finset.mem_univ _, le_rfl⟩))

/-- Two words below 2^31 compare signed as numbers. -/
theorem minsi_toNat {x y : BitVec 32} (hx : x.toNat < 2 ^ 31) (hy : y.toNat < 2 ^ 31) :
    (IntOp.minsi x y).toNat = min x.toNat y.toNat := by
  unfold IntOp.minsi
  have h : x.slt y = decide (x.toNat < y.toNat) := by
    rw [BitVec.slt, BitVec.toInt_eq_toNat_of_lt (by omega), BitVec.toInt_eq_toNat_of_lt (by omega)]
    simp
  rw [h]
  by_cases hlt : x.toNat < y.toNat
  · simp [hlt, Nat.min_eq_left hlt.le]
  · simp [hlt, Nat.min_eq_right (not_lt.mp hlt)]

/-- Among words below 2^31, the signed minimum is the minimum of the numbers they are. -/
theorem fold_minsi_toNat {ι : Type} [DecidableEq ι] (s : Finset ι) (f : ι → BitVec 32) (b : BitVec 32) (hb : b.toNat < 2 ^ 31)
    (hf : ∀ i, (f i).toNat < 2 ^ 31) :
    (s.fold IntOp.minsi b f).toNat = s.fold min b.toNat (fun i => (f i).toNat) ∧ (s.fold IntOp.minsi b f).toNat < 2 ^ 31 := by
  induction s using Finset.induction_on with
  | empty => exact ⟨rfl, hb⟩
  | insert i s hi ih =>
    rw [Finset.fold_insert hi, Finset.fold_insert hi, minsi_toNat (hf i) ih.2, ih.1]
    exact ⟨rfl, lt_of_le_of_lt (Nat.min_le_left _ _) (hf i)⟩

/-- The least position whose score is the maximum, a position whose score is not counting as 8, is the chosen expert. -/
theorem least_eq {g : Fin 8 → EReal} {a : Fin 8} (ha : IsFirst g a) (f : Fin 8 → BitVec 32)
    (hf : ∀ e, f e = if g e = g a then BitVec.ofNat 32 e.val else 8#32) :
    Finset.univ.fold IntOp.minsi 2147483647#32 f = BitVec.ofNat 32 a.val := by
  have hv : ∀ e, (f e).toNat = if g e = g a then e.val else 8 := fun e => by
    rw [hf]; split
    · rw [BitVec.toNat_ofNat]; omega
    · rfl
  have hlt : ∀ e, (f e).toNat < 2 ^ 31 := fun e => by rw [hv]; split <;> omega
  apply BitVec.eq_of_toNat_eq
  have hA : (BitVec.ofNat 32 a.val).toNat = a.val := by rw [BitVec.toNat_ofNat]; omega
  rw [(fold_minsi_toNat Finset.univ f _ (by decide) hlt).1, hA]
  refine le_antisymm ((Finset.fold_min_le _).mpr (.inr ⟨a, Finset.mem_univ _, ?_⟩)) ((Finset.le_fold_min _).mpr ⟨?_, fun e _ => ?_⟩)
  · rw [hv, if_pos rfl]
  · have := a.isLt; simp; omega
  · rw [hv]; split
    · rename_i h
      by_contra hlt'
      exact absurd (ha.2 e (by rw [Fin.lt_def]; omega)) (by rw [h]; exact lt_irrefl _)
    · omega

end Cert.Top1

end
-- ==== Proof.Spec.lean ====
/-
  WHAT BOTH PROGRAMS COMPUTE, for one token and one output feature, over the extended reals.

  There are 32 experts in four groups of eight, expert `q` being the `q % 8`-th of group `q / 8`. The token's score for an
  expert is the inner product of its 768 features with the expert's column of the first weight matrix. In each group
  only the first expert of greatest score keeps its score, the other seven count zero (`Top1.gate`); the output feature
  is the sum of the gated scores, each times the expert's entry of the second weight matrix.
-/
module

public import proofs.«01_k».proof.Proof.Top1

@[expose] public section

noncomputable section

namespace Cert.Spec

open Idealize.ShloMosaic

/-- One output feature of one token, from the token's features `x`, the first weight matrix `w` and the output
    feature's column `v` of the second one. -/
def feature (x : Fin 768 → EReal) (w : Fin 768 → Fin 32 → EReal) (v : Fin 32 → EReal) : EReal :=
  ∑ q : Fin 32, Top1.gate (fun e => ∑ k : Fin 768, x k * w k ⟨q.val / 8 * 8 + e.val, by omega⟩) ⟨q.val % 8, by omega⟩ * v q

/-- Every output feature of each of `n` tokens: row `r` of the result is that of token `r`. -/
def layer (n : Nat) (x : (⟨2, ![n, 768]⟩ : Shape).Idx → EReal) (w : (⟨2, ![768, 32]⟩ : Shape).Idx → EReal)
    (v : (⟨2, ![32, 768]⟩ : Shape).Idx → EReal) : (⟨2, ![n, 768]⟩ : Shape).Idx → EReal :=
  fun j => feature (fun k => x (ix2 (j 0) k)) (fun k q => w (ix2 k q)) (fun q => v (ix2 q (j 1)))

end Cert.Spec

end
-- ==== Proof.Block.lean ====
/-
  WHAT ONE BLOCK COMPUTES: the block of 4096 tokens the kernel stores holds, for each of its tokens and each output
  feature, the expert layer of `Spec.layer`.

  The kernel lays the scores out with the tokens last, as 32 rows of 4096, and sees the 32 rows as four groups of eight.
  Over each group it takes the maximum, marks the positions that reach it, takes the smallest marked position, and keeps
  the score at that position only. By `Top1.least_eq` that position is the chosen expert.
-/
module

public import proofs.«01_k».proof.Proof.Spec
public import proofs.«01_k».proof.Proof.Gen.KernelIdeal.Skeleton

@[expose] public section

set_option maxRecDepth 16384

noncomputable section

namespace Cert.Block

open Idealize.ShloMosaic Cert.KernelIdeal Cert.KernelIdeal.Gen

/-- The word the maximum starts from is minus infinity. -/
theorem ofBits_negInf : Ideal.ofBits .f32 0xFF800000#32 = ⊥ := by simp [Ideal.ofBits, Ideal.ieee]

/-- The kernel's choice, read on the eight scores of one group: at expert `e` it keeps the score of the chosen one and
    puts zero elsewhere. -/
theorem select_eq_gate (g : Fin 8 → EReal) (e : Fin 8) (f : Fin 8 → BitVec 32)
    (hf : ∀ i, f i = if g i = Finset.univ.fold max (⊥ : EReal) g then BitVec.ofNat 32 i.val else 8#32) :
    Scalar.select (IntOp.cmpi .eq (BitVec.ofNat 32 e.val) (Finset.univ.fold IntOp.minsi 2147483647#32 f)) (g e) 0
      = Top1.gate g e := by
  obtain ⟨a, ha⟩ := Top1.exists_isFirst g
  have hf' : ∀ i, f i = if g i = g a then BitVec.ofNat 32 i.val else 8#32 := fun i => by
    rw [hf i, Top1.fold_max_eq ha]
  rw [Top1.least_eq ha f hf', Top1.gate_eq ha]
  have hiff : (BitVec.ofNat 32 e.val = BitVec.ofNat 32 a.val) ↔ e = a := by
    refine ⟨fun h => Fin.ext ?_, fun h => by rw [h]⟩
    have h' := congrArg BitVec.toNat h
    rw [BitVec.toNat_ofNat, BitVec.toNat_ofNat] at h'
    omega
  by_cases h : e = a
  · subst h; simp [Scalar.select, IntOp.cmpi]
  · have hne : (BitVec.ofNat 32 e.val == BitVec.ofNat 32 a.val) = false := by rw [beq_eq_false_iff_ne]; exact fun h' => h (hiff.mp h')
    simp [Scalar.select, IntOp.cmpi, h, hne]

/-- The same with the kept score multiplied by a weight, which leaves the zeros zero. -/
theorem select_eq_gate_mul (g : Fin 8 → EReal) (e : Fin 8) (f : Fin 8 → BitVec 32) (y : EReal)
    (hf : ∀ i, f i = if g i = Finset.univ.fold max (⊥ : EReal) g then BitVec.ofNat 32 i.val else 8#32) :
    Scalar.select (IntOp.cmpi .eq (BitVec.ofNat 32 e.val) (Finset.univ.fold IntOp.minsi 2147483647#32 f)) (g e * y) 0
      = Top1.gate g e * y := by
  rw [← select_eq_gate g e f hf]
  unfold Scalar.select
  split
  · rfl
  · rw [zero_mul]

/-- The stored block, entry by entry, is the expert layer of the block of tokens. -/
theorem pay_apply (x : Vec Ideal S4096x768 .f32) (w : Vec Ideal S768x32 .f32) (v : Vec Ideal S32x768 .f32) (r : Fin 4096)
    (o : Fin 768) : k0_pay1 x w v (ix2 r o) = Spec.layer 4096 x w v (ix2 r o) := by
  unfold Spec.layer Spec.feature
  pointwise [k0_pay1]
  simp only [ofBits_negInf]
  refine Finset.sum_congr rfl fun q _ => ?_
  have hq : (⟨q.val / 8 * 8 + q.val % 8, by omega⟩ : Fin 32) = q := Fin.ext (by simp only; omega)
  simp only [mul_comm (w _)]
  have hg := select_eq_gate_mul (fun e => ∑ k : Fin 768, x (ix2 r k) * w (ix2 k ⟨q.val / 8 * 8 + e.val, by omega⟩))
    ⟨q.val % 8, by omega⟩ _ (v (ix2 q o)) fun _ => rfl
  simp only [hq] at hg
  exact hg

/-- The stored block is the expert layer of the block of tokens. -/
theorem pay_eq (x : Vec Ideal S4096x768 .f32) (w : Vec Ideal S768x32 .f32) (v : Vec Ideal S32x768 .f32) :
    k0_pay1 x w v = Spec.layer 4096 x w v := by
  funext j
  rw [show j = ix2 (j 0) (j 1) from funext fun a => by fin_cases a <;> rfl]
  exact pay_apply x w v (j 0) (j 1)

end Cert.Block

end
-- ==== Proof.Run.lean ====
/-
  WHAT THE KERNEL'S RUN LEAVES: its result array is the expert layer of the reshaped arguments, reshaped.

  Before the kernel the program reshapes its three arguments: the tokens to 16384 rows, the first weight matrix to 32
  columns, the second to 32 rows. The kernel's grid has four points; point `t` reads rows `4096 t` to `4096 t + 4095` of
  the tokens and both weight matrices whole, and writes the same rows of the result. What a point writes is its block
  of the expert layer of the whole arrays (`flushed_eq`), the four blocks fill the array (`cover`), so the array ends
  holding the layer (`final`), and the reshape after the kernel reads it (`tail`).
-/
module

public import proofs.«01_k».proof.Proof.Block
public import proofs.«01_k».proof.Proof.Gen.KernelIdeal.Frame
public import proofs.«01_k».proof.Proof.Gen.KernelIdeal.Points
public import Idealize.ShloMosaic.Lib.Pipeline.Value

@[expose] public section

noncomputable section

namespace Cert.Run

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg)

/-! ## The arrays the kernel is handed -/

/-- The tokens, as 16384 rows. -/
theorem V_tokens (c : Dev nD) :
    V m c main_v0 = shapeCast S16384x768 (m ((c : Thread nD τ).loc main_arg0)) shapeCasts_S4x4096x768_S16384x768 := by
  simp only [V, V0, hostOps0, List.flatten_cons, List.flatten_nil, List.append_nil]
  after_results_simp <;> rfl

/-- The first weight matrix, as 32 columns. -/
theorem V_weights1 (c : Dev nD) :
    V m c main_v1 = shapeCast S768x32 (m ((c : Thread nD τ).loc main_arg1)) shapeCasts_S768x4x8_S768x32 := by
  simp only [V, V0, hostOps0, List.flatten_cons, List.flatten_nil, List.append_nil]
  after_results_simp <;> rfl

/-- The second weight matrix, as 32 rows. -/
theorem V_weights2 (c : Dev nD) :
    V m c main_v2 = shapeCast S32x768 (m ((c : Thread nD τ).loc main_arg2)) shapeCasts_S4x8x768_S32x768 := by
  simp only [V, V0, hostOps0, List.flatten_cons, List.flatten_nil, List.append_nil]
  after_results_simp <;> rfl

/-- The expert layer of the three arrays as the kernel finds them: what the result array is shown to hold. -/
abbrev whole (c : Dev nD) : Buf (Elt Ideal) ((c : Thread nD τ).loc main_v3) :=
  Spec.layer 16384 (V m c main_v0) (V m c main_v1) (V m c main_v2)

/-! ## One point's block -/

/-- The start of a load of a whole buffer is the origin. -/
theorem origin : (![0, 0] : Fin 2 → Nat) = fun _ => 0 := by decide

/-- Point `t`'s block of the tokens starts at row `4096 t`, and so does its block of the result; the blocks of the weight
    matrices start at the origin. -/
theorem starts (t : Fin cfg0.N) :
    (win0_0.index t 0 * win0_0.size 0 = t.val * 4096 ∧ win0_0.index t 1 * win0_0.size 1 = 0)
      ∧ (win0_1.index t 0 * win0_1.size 0 = 0 ∧ win0_1.index t 1 * win0_1.size 1 = 0)
      ∧ (win0_2.index t 0 * win0_2.size 0 = 0 ∧ win0_2.index t 1 * win0_2.size 1 = 0)
      ∧ (win0_3.index t 0 * win0_3.size 0 = t.val * 4096 ∧ win0_3.index t 1 * win0_3.size 1 = 0)
      ∧ win0_3.xsize (grid0.coords t) 0 = 4096 ∧ win0_3.xsize (grid0.coords t) 1 = 768 := by
  rcases fin_N0 t with rfl | rfl | rfl | rfl <;> decide +kernel

/-- Row `r` of point `t`'s block is a row of the array. -/
theorem row_lt (t : Fin cfg0.N) (r : Fin 4096) : t.val * 4096 + r.val < 16384 := by
  have h : t.val < 4 := lt_of_lt_of_eq t.isLt N_0
  omega

/-- Entry `(r, k)` of the block of tokens is entry `(4096 t + r, k)` of the tokens. -/
theorem tokens_apply (c : Dev nD) (t : Fin cfg0.N) (r : Fin 4096) (k : Fin 768) :
    iblk m c 0 t (ix2 r k) = V m c main_v0 (ix2 (⟨t.val * 4096 + r.val, row_lt t r⟩ : Fin 16384) k) := by
  obtain ⟨⟨e0, e1⟩, -⟩ := starts t
  refine congrArg (V m c main_v0) (funext fun a => Fin.ext ?_)
  fin_cases a
  · show win0_0.index t 0 * win0_0.size 0 + 1 * r.val = t.val * 4096 + r.val
    rw [e0, one_mul]
  · show win0_0.index t 1 * win0_0.size 1 + 1 * k.val = k.val
    rw [e1, one_mul, zero_add]

/-- The block of the first weight matrix is the matrix. -/
theorem weights1_apply (c : Dev nD) (t : Fin cfg0.N) (k : Fin 768) (q : Fin 32) :
    iblk m c 1 t (ix2 k q) = V m c main_v1 (ix2 k q) := by
  obtain ⟨-, ⟨e0, e1⟩, -⟩ := starts t
  refine congrArg (V m c main_v1) (funext fun a => Fin.ext ?_)
  fin_cases a
  · show win0_1.index t 0 * win0_1.size 0 + 1 * k.val = k.val
    rw [e0, one_mul, zero_add]
  · show win0_1.index t 1 * win0_1.size 1 + 1 * q.val = q.val
    rw [e1, one_mul, zero_add]

/-- The block of the second weight matrix is the matrix. -/
theorem weights2_apply (c : Dev nD) (t : Fin cfg0.N) (q : Fin 32) (o : Fin 768) :
    iblk m c 2 t (ix2 q o) = V m c main_v2 (ix2 q o) := by
  obtain ⟨-, -, ⟨e0, e1⟩, -⟩ := starts t
  refine congrArg (V m c main_v2) (funext fun a => Fin.ext ?_)
  fin_cases a
  · show win0_2.index t 0 * win0_2.size 0 + 1 * q.val = q.val
    rw [e0, one_mul, zero_add]
  · show win0_2.index t 1 * win0_2.size 1 + 1 * o.val = o.val
    rw [e1, one_mul, zero_add]

/-- Entry `(r, o)` of point `t`'s block of a result array is its entry `(4096 t + r, o)`. -/
theorem result_apply (c : Dev nD) (G : Buf (Elt Ideal) ((c : Thread nD τ).loc main_v3)) (t : Fin cfg0.N) (r : Fin 4096) (o : Fin 768) :
    (win0_3.blk t).view.read (Elt Ideal) G (ix2 r o) = G (ix2 (⟨t.val * 4096 + r.val, row_lt t r⟩ : Fin 16384) o) := by
  obtain ⟨-, -, -, ⟨e0, e1⟩, -⟩ := starts t
  refine congrArg G (funext fun a => Fin.ext ?_)
  fin_cases a
  · show win0_3.index t 0 * win0_3.size 0 + 1 * r.val = t.val * 4096 + r.val
    rw [e0, one_mul]
  · show win0_3.index t 1 * win0_3.size 1 + 1 * o.val = o.val
    rw [e1, one_mul, zero_add]

/-- The layer of point `t`'s blocks is point `t`'s block of the layer. -/
theorem layer_block (c : Dev nD) (t : Fin cfg0.N) :
    Spec.layer 4096 (iblk m c 0 t) (iblk m c 1 t) (iblk m c 2 t) = (win0_3.blk t).view.read (Elt Ideal) (whole m c) := by
  funext j
  obtain ⟨r, o, rfl⟩ : ∃ (r : Fin 4096) (o : Fin 768), j = ix2 r o := ⟨j 0, j 1, funext fun a => by fin_cases a <;> rfl⟩
  refine Eq.trans ?_ (result_apply c (whole m c) t r o).symm
  have h0 : (fun k => iblk m c 0 t (ix2 r k)) = fun k => V m c main_v0 (ix2 (⟨t.val * 4096 + r.val, row_lt t r⟩ : Fin 16384) k) :=
    funext fun k => tokens_apply m c t r k
  have h1 : (fun k q => iblk m c 1 t (ix2 k q)) = fun k q => V m c main_v1 (ix2 k q) :=
    funext fun k => funext fun q => weights1_apply m c t k q
  have h2 : (fun q => iblk m c 2 t (ix2 q o)) = fun q => V m c main_v2 (ix2 q o) :=
    funext fun q => weights2_apply m c t q o
  show Spec.feature (fun k => iblk m c 0 t (ix2 r k)) (fun k q => iblk m c 1 t (ix2 k q)) (fun q => iblk m c 2 t (ix2 q o)) = _
  rw [h0, h1, h2]
  rfl

/-- What point `t` writes back is its block of the layer of the whole arrays. -/
theorem flushed_eq (c : Dev nD) (t : Fin cfg0.N) :
    (dats m 0 c).flushed 3 t = (win0_3.blk t).view.read (Elt Ideal) (whole m c) := by
  show (cfg0.win 3).cut (grid0.coords t) ((dats m 0 c).after 3 t) = _
  rw [after0_3]
  unfold out0_3
  rw [View.canon_unit_zero origin, View.ld_unit_zero origin, View.ld_unit_zero origin, View.ld_unit_zero origin, Block.pay_eq]
  exact layer_block m c t

/-! ## The whole array -/

/-- A row of the result is in point `t`'s block when it is one of its 4096 rows. -/
theorem mem_blk (t : Fin cfg0.N) (i : S16384x768.Idx) :
    i ∈ ((cfg0.win 3).blk t).view.set ↔ t.val * 4096 ≤ (i 0 : Nat) ∧ (i 0 : Nat) < t.val * 4096 + 4096 := by
  show i ∈ ((View.whole main_v3).slice (win0_3.rect t)).set ↔ _
  rw [View.set_slice_whole, Rect.mem_set_unit]
  obtain ⟨-, -, -, ⟨e0, e1⟩, x0, x1⟩ := starts t
  have h1 : (i 1 : Nat) < 768 := (i 1).isLt
  refine Fin.forall_fin_two.trans ?_
  show (win0_3.index t 0 * win0_3.size 0 ≤ (i 0 : Nat)
        ∧ (i 0 : Nat) < win0_3.index t 0 * win0_3.size 0 + win0_3.xsize (grid0.coords t) 0)
      ∧ (win0_3.index t 1 * win0_3.size 1 ≤ (i 1 : Nat)
        ∧ (i 1 : Nat) < win0_3.index t 1 * win0_3.size 1 + win0_3.xsize (grid0.coords t) 1) ↔ _
  rw [e0, x0, e1, x1]
  omega

/-- The four blocks fill the array. -/
theorem cover (i : S16384x768.Idx) :
    ∃ t : Fin cfg0.N, (cfg0.win 3).flush t = true ∧ i ∈ ((cfg0.win 3).blk t).view.set := by
  have h0 : (i 0 : Nat) < 16384 := (i 0).isLt
  refine ⟨⟨(i 0 : Nat) / 4096, by rw [show cfg0.N = 4 from N_0]; omega⟩, flush0_3 _, (mem_blk _ i).mpr ?_⟩
  dsimp only
  omega

/-- So the array ends holding the layer of the whole arrays. -/
theorem final (c : Dev nD) : (dats m 0 c).arrAt 3 cfg0.N = whole m c :=
  (dats m 0 c).arrAt_eq_of_cover 3 (whole m c) (fun t _ => flushed_eq m c t) cover

/-! ## The result -/

/-- The result as a function of the three arguments: reshape them, take the layer, reshape it. -/
abbrev value (x : FVec Ideal S4x4096x768 .f32) (w : FVec Ideal S768x4x8 .f32) (v : FVec Ideal S4x8x768 .f32) :
    FVec Ideal S4x4096x768 .f32 :=
  shapeCast S4x4096x768 (s := S16384x768) (Spec.layer 16384 (shapeCast S16384x768 x shapeCasts_S4x4096x768_S16384x768)
    (shapeCast S768x32 w shapeCasts_S768x4x8_S768x32) (shapeCast S32x768 v shapeCasts_S4x8x768_S32x768))
    shapeCasts_S16384x768_S4x4096x768

/-- After the last reshape the result array holds it. -/
theorem tail (c : Dev nD) :
    Pipeline.afterTail₀ cfgs (dats m) 0 (V0 m) [hostOps1] c main_v4
      = value (m ((c : Thread nD τ).loc main_arg0)) (m ((c : Thread nD τ).loc main_arg1)) (m ((c : Thread nD τ).loc main_arg2)) := by
  have h : Pipeline.afterTail₀ cfgs (dats m) 0 (V0 m) [hostOps1] c main_v4
      = shapeCast S4x4096x768 (Pipeline.withArrays spec0 c (V0 m c) (fun w => (dats m 0 c).arrAt w cfg0.N) (Proc.devRef .tc main_v3))
          shapeCasts_S16384x768_S4x4096x768 := by
    unfold Pipeline.afterTail₀
    simp only [hostOps1, List.flatten_cons, List.flatten_nil, List.append_nil]
    after_results_simp <;> rfl
  have h3 : Pipeline.withArrays spec0 c (V0 m c) (fun w => (dats m 0 c).arrAt w cfg0.N) (Proc.devRef .tc main_v3) = whole m c :=
    (Pipeline.withArrays_arr spec0 launch0.win.arr_inj c (V0 m c) (fun w => (dats m 0 c).arrAt w cfg0.N) 3).trans (final m c)
  rw [h, h3]
  unfold whole value
  rw [V_tokens, V_weights1, V_weights2]

/-- The run: the result array at its value, the arguments unchanged. -/
theorem run : θ_run defs (onTc (τ := τ) (main (F := Ideal))) ⟨m, fun _ => 0, ρ⟩ fun r => ∀ c : Dev nD,
      r.2.mem ((c : Thread nD τ).loc main_v4)
        = value (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h.1 c).2 main_v4 (by decide)).trans (tail m c), h.2 c⟩)
    (θ_run_and (run_main m ρ) (unchanged m ρ))

end Cert.Run

end
-- ==== Proof.RefValue.lean ====
/-
  WHAT THE REFERENCE COMPUTES: its result is the expert layer of `Spec.layer` of the reshaped arguments, reshaped.

  The reference takes the one greatest of each group's eight scores with its position, and writes the greatest scores
  into an array of zeros at the positions (token, group, position): an index table of three columns, each first passed
  through the rule that a negative index counts from the end, which no index here is. So an entry of that array is the
  score where it is the chosen one and zero elsewhere, and the last product sums those.
-/
module

public import proofs.«01_k».proof.Proof.Spec
public import proofs.«01_k».proof.Proof.Gen.ReferenceIdeal.Run
public import Idealize.ShloMosaic.Lib.Routing.OpsSet

@[expose] public section

noncomputable section

namespace Cert.RefValue

open Idealize.ShloMosaic Cert.ReferenceIdeal Cert.ReferenceIdeal.Gen

/-! ## The scatter: where each update lands -/

/-- The reference's scatter: every update is one element, its three index components the element's coordinates. -/
abbrev put := scatter_S16384x4x8_S16384x4x1x3_S16384x4x1_n_012_012_3

/-- An update has no window: it adds nothing to the start. -/
theorem window_zero (k : S16384x4x1.Idx) (a : Fin S16384x4x8.rank) : put.window k a = 0 := by
  unfold ScatterDims.window
  rw [dif_neg]
  revert a; decide

/-- The start along the tokens is the first column of the index table, -/
theorem start_0 (idx : IVec S16384x4x1x3 32) (k : S16384x4x1.Idx) :
    put.start k idx 0 = (idx (ix4 (k 0) (k 1) (k 2) 0)).toInt := by
  unfold ScatterDims.start
  rw [dif_pos (by decide)]
  refine congrArg (fun i => (idx i).toInt) (funext fun b => ?_)
  fin_cases b <;> rfl

/-- along the groups the second, -/
theorem start_1 (idx : IVec S16384x4x1x3 32) (k : S16384x4x1.Idx) :
    put.start k idx 1 = (idx (ix4 (k 0) (k 1) (k 2) 1)).toInt := by
  unfold ScatterDims.start
  rw [dif_pos (by decide)]
  refine congrArg (fun i => (idx i).toInt) (funext fun b => ?_)
  fin_cases b <;> rfl

/-- and along the experts the third. -/
theorem start_2 (idx : IVec S16384x4x1x3 32) (k : S16384x4x1.Idx) :
    put.start k idx 2 = (idx (ix4 (k 0) (k 1) (k 2) 2)).toInt := by
  unfold ScatterDims.start
  rw [dif_pos (by decide)]
  refine congrArg (fun i => (idx i).toInt) (funext fun b => ?_)
  fin_cases b <;> rfl

/-- A small number written as a word reads back, signed, as itself. -/
theorem toInt_ofNat {n : Nat} (h : n < 2 ^ 31) : (BitVec.ofNat 32 n).toInt = n := by
  rw [BitVec.toInt_eq_toNat_of_lt (by rw [BitVec.toNat_ofNat]; omega), BitVec.toNat_ofNat]
  omega

/-- With an index table naming, for token `u` and group `p`, the element `(u, p, E u p)`, the update of `(u, p)` lands there. -/
theorem lands (idx : IVec S16384x4x1x3 32) (E : Fin 16384 → Fin 4 → Fin 8)
    (h0 : ∀ u p, idx (ix4 u p 0 0) = BitVec.ofNat 32 u.val) (h1 : ∀ u p, idx (ix4 u p 0 1) = BitVec.ofNat 32 p.val)
    (h2 : ∀ u p, idx (ix4 u p 0 2) = BitVec.ofNat 32 (E u p).val) (u : Fin 16384) (p : Fin 4) :
    put.resultIdx? (ix3 u p 0) idx = some (ix3 u p (E u p)) := by
  have e0 : put.start (ix3 u p 0) idx 0 = u.val := by
    rw [start_0]; exact (congrArg BitVec.toInt (h0 u p)).trans (toInt_ofNat (by omega))
  have e1 : put.start (ix3 u p 0) idx 1 = p.val := by
    rw [start_1]; exact (congrArg BitVec.toInt (h1 u p)).trans (toInt_ofNat (by omega))
  have e2 : put.start (ix3 u p 0) idx 2 = (E u p).val := by
    rw [start_2]; exact (congrArg BitVec.toInt (h2 u p)).trans (toInt_ofNat (by omega))
  have e : ∀ a, put.start (ix3 u p 0) idx a + put.window (ix3 u p 0) a
      = ((ix3 u p (E u p) : S16384x4x8.Idx) a).val := fun a => by
    rw [window_zero, Nat.cast_zero, add_zero]
    fin_cases a
    · exact e0
    · exact e1
    · exact e2
  unfold ScatterDims.resultIdx?
  rw [dif_pos fun a => by rw [e a]; exact ⟨by positivity, by exact_mod_cast ((ix3 u p (E u p) : S16384x4x8.Idx) a).isLt⟩]
  refine congrArg some (funext fun a => Fin.ext ?_)
  show (put.start (ix3 u p 0) idx a + put.window (ix3 u p 0) a).toNat = _
  rw [e a, Int.toNat_natCast]

/-- An update's index is a token and a group. -/
theorem update_form (k : S16384x4x1.Idx) : ∃ (u : Fin 16384) (p : Fin 4), k = ix3 u p 0 :=
  ⟨k 0, k 1, funext fun a => by
    fin_cases a
    · rfl
    · rfl
    · exact Fin.ext (Nat.lt_one_iff.mp (k 2).isLt)⟩

/-- So the scatter of the chosen scores into zeros is the array of gated scores. -/
theorem scatter_apply (x : FVec Ideal S16384x4x8 .f32) (zero : FVec Ideal S16384x4x8 .f32) (hz : ∀ i, zero i = 0)
    (idx : IVec S16384x4x1x3 32) (upd : FVec Ideal S16384x4x1 .f32) (E : Fin 16384 → Fin 4 → Fin 8)
    (h0 : ∀ u p, idx (ix4 u p 0 0) = BitVec.ofNat 32 u.val) (h1 : ∀ u p, idx (ix4 u p 0 1) = BitVec.ofNat 32 p.val)
    (h2 : ∀ u p, idx (ix4 u p 0 2) = BitVec.ofNat 32 (E u p).val)
    (hE : ∀ u p, Top1.IsFirst (fun e => x (ix3 u p e)) (E u p)) (hu : ∀ u p, upd (ix3 u p 0) = x (ix3 u p (E u p)))
    (u : Fin 16384) (p : Fin 4) (e : Fin 8) :
    Host.scatter put (fun _ b => b) zero idx upd (ix3 u p e) = Top1.gate (fun e => x (ix3 u p e)) e := by
  -- an update that lands on `(u, p, e)` is the one of `(u, p)`, and `e` is then the chosen expert
  have hl : ∀ k : S16384x4x1.Idx, put.resultIdx? k idx = some (ix3 u p e) → k = ix3 u p 0 ∧ e = E u p := fun k h => by
    obtain ⟨u', p', rfl⟩ := update_form k
    have h := Option.some.inj ((lands idx E h0 h1 h2 u' p').symm.trans h)
    obtain rfl : u' = u := congrFun h 0
    obtain rfl : p' = p := congrFun h 1
    exact ⟨rfl, (congrFun h 2).symm⟩
  rw [Top1.gate_eq (hE u p)]
  by_cases h : e = E u p
  · rw [if_pos h]
    refine Routing.scatter_set_hit put zero idx upd _ _ (fun k hk' => ?_) (ix3 u p 0) (by rw [h]; exact lands idx E h0 h1 h2 u p)
    rw [(hl k hk').1, hu, h]
  · rw [if_neg h, Routing.scatter_set_miss put zero idx upd _ fun k hk' => h (hl k hk').2, hz]

/-! ## The greatest of eight -/

/-- The eight scores of token `u` in group `p`. -/
abbrev scores (x : FVec Ideal S16384x4x8 .f32) (u : Fin 16384) (p : Fin 4) : Fin 8 → EReal := fun e => x (ix3 u p e)

/-- The position the reference's sort puts first, for token `u` and group `p`. -/
def chosen (x : FVec Ideal S16384x4x8 .f32) (u : Fin 16384) (p : Fin 4) : Fin 8 := sortedFrom (Top1.before (scores x u p)) 0

/-- It is the chosen expert. -/
theorem chosen_isFirst (x : FVec Ideal S16384x4x8 .f32) (u : Fin 16384) (p : Fin 4) :
    Top1.IsFirst (scores x u p) (chosen x u p) := Top1.isFirst_sorted _ 0 rfl

/-- The elements the sort compares along the experts' axis are those of the group. -/
theorem along_eq (u : Fin 16384) (p : Fin 4) (k e : Fin 8) :
    (ix3 u p k : S16384x4x8.Idx).along 2 e = ix3 u p e := funext fun a => by
  fin_cases a
  · rfl
  · rfl
  · rfl

/-- The sort's order along a group is the order by descending score. -/
theorem order_eq (x : FVec Ideal S16384x4x8 .f32) (u : Fin 16384) (p : Fin 4) :
    (fun k k' : Fin 8 => FloatOps.cmpfTotal (F := Ideal) (φ := .f32) CmpDirection.gt (x ((ix3 u p 0 : S16384x4x8.Idx).along 2 k))
        (x ((ix3 u p 0 : S16384x4x8.Idx).along 2 k')) == 1#1)
      = Top1.before (scores x u p) := by
  funext k k'
  rw [along_eq, along_eq]
  show (BitVec.ofBool (decide (x (ix3 u p k') < x (ix3 u p k))) == 1#1) = decide (x (ix3 u p k') < x (ix3 u p k))
  cases decide (x (ix3 u p k') < x (ix3 u p k)) <;> rfl

/-- The reference's greatest scores and their positions. -/
abbrev top (x : FVec Ideal S16384x4x8 .f32) :=
  Host.topK S16384x4x1 2 (FloatOps.cmpfTotal .gt) x sliceFits_S16384x4x8_S16384x4x1

/-- The position taken is the chosen expert's, -/
theorem top_index (x : FVec Ideal S16384x4x8 .f32) (u : Fin 16384) (p : Fin 4) :
    (top x).2 (ix3 u p 0) = BitVec.ofNat 32 (chosen x u p).val := by
  unfold top Host.topK Host.sort2
  dsimp only
  pointwise
  exact congrArg (fun R => BitVec.ofNat 32 (sortedFrom R (0 : Fin 8)).val) (order_eq x u p)

/-- and the score taken is the chosen expert's. -/
theorem top_value (x : FVec Ideal S16384x4x8 .f32) (u : Fin 16384) (p : Fin 4) :
    (top x).1 (ix3 u p 0) = x (ix3 u p (chosen x u p)) := by
  unfold top Host.topK Host.sort2
  dsimp only
  pointwise
  exact (congrArg (fun R => x ((ix3 u p 0 : S16384x4x8.Idx).along 2 (sortedFrom R (0 : Fin 8)))) (order_eq x u p)).trans
    (congrArg x (along_eq u p 0 _))

/-! ## The index table -/

/-- An index that is not negative is left as it is by the rule for negative ones. -/
theorem wrap {n : Nat} (h : n < 2 ^ 31) (d : BitVec 32) :
    Scalar.select (IntOp.cmpi .slt (BitVec.ofNat 32 n) 0#32) (IntOp.addi (BitVec.ofNat 32 n) d) (BitVec.ofNat 32 n)
      = BitVec.ofNat 32 n := by
  have hs : (BitVec.ofNat 32 n).slt 0#32 = false := by
    rw [BitVec.slt, toInt_ofNat h]
    simp
  simp [Scalar.select, IntOp.cmpi, hs]

/-- The first column of the index table: the token, after the rule for negative indices, the same in every group. -/
abbrev tokenCol : IVec S16384x4x1x1 32 :=
  broadcastInDim S16384x4x1x1 ![0, 1, 2] bcast_S16384x4x1_S16384x4x1x1_0_1_2
    (broadcastInDim S16384x4x1 ![0, 1, 2] bcast_S16384x1x1_S16384x4x1_0_1_2
      (select
        (cmpi .slt (broadcastInDim S16384x1x1 ![0] bcast_S16384_S16384x1x1_0 (iotaInDim S16384 32 0))
          (broadcastInDim S16384x1x1 ![] bcast_S_S16384x1x1 (constantI S_ 32 0#32)))
        (addi (broadcastInDim S16384x1x1 ![0] bcast_S16384_S16384x1x1_0 (iotaInDim S16384 32 0))
          (broadcastInDim S16384x1x1 ![] bcast_S_S16384x1x1 (constantI S_ 32 16384#32)))
        (broadcastInDim S16384x1x1 ![0] bcast_S16384_S16384x1x1_0 (iotaInDim S16384 32 0))))

/-- The second column: the group, after the rule, the same for every token. -/
abbrev groupCol : IVec S16384x4x1x1 32 :=
  broadcastInDim S16384x4x1x1 ![0, 1, 2] bcast_S16384x4x1_S16384x4x1x1_0_1_2
    (broadcastInDim S16384x4x1 ![0, 1, 2] bcast_S1x4x1_S16384x4x1_0_1_2
      (select
        (cmpi .slt (broadcastInDim S1x4x1 ![1] bcast_S4_S1x4x1_1 (iotaInDim S4 32 0))
          (broadcastInDim S1x4x1 ![] bcast_S_S1x4x1 (constantI S_ 32 0#32)))
        (addi (broadcastInDim S1x4x1 ![1] bcast_S4_S1x4x1_1 (iotaInDim S4 32 0))
          (broadcastInDim S1x4x1 ![] bcast_S_S1x4x1 (constantI S_ 32 4#32)))
        (broadcastInDim S1x4x1 ![1] bcast_S4_S1x4x1_1 (iotaInDim S4 32 0))))

/-- The third column: the positions `t` of the greatest scores, after the rule. -/
abbrev positionCol (t : IVec S16384x4x1 32) : IVec S16384x4x1x1 32 :=
  broadcastInDim S16384x4x1x1 ![0, 1, 2] bcast_S16384x4x1_S16384x4x1x1_0_1_2
    (select (cmpi .slt t (broadcastInDim S16384x4x1 ![] bcast_S_S16384x4x1 (constantI S_ 32 0#32)))
      (addi t (broadcastInDim S16384x4x1 ![] bcast_S_S16384x4x1 (constantI S_ 32 8#32))) t)

/-- The index table: its three columns side by side. -/
abbrev table (t : IVec S16384x4x1 32) : IVec S16384x4x1x3 32 :=
  concatenate S16384x4x1x3 3
    [⟨S16384x4x1x1, tokenCol⟩, ⟨S16384x4x1x1, groupCol⟩, ⟨S16384x4x1x1, positionCol t⟩]
    concatenates_S16384x4x1x1_S16384x4x1x1_S16384x4x1x1_S16384x4x1x3_d3

/-- The first column is the token, -/
theorem table_0 (t : IVec S16384x4x1 32) (u : Fin 16384) (p : Fin 4) : table t (ix4 u p 0 0) = BitVec.ofNat 32 u.val := by
  unfold table
  pointwise
  exact wrap (by omega) _

/-- the second the group, -/
theorem table_1 (t : IVec S16384x4x1 32) (u : Fin 16384) (p : Fin 4) : table t (ix4 u p 0 1) = BitVec.ofNat 32 p.val := by
  unfold table
  pointwise
  exact wrap (by omega) _

/-- and the third the position within the group. -/
theorem table_2 (t : IVec S16384x4x1 32) (u : Fin 16384) (p : Fin 4) (e : Fin 8) (h : t (ix3 u p 0) = BitVec.ofNat 32 e.val) :
    table t (ix4 u p 0 2) = BitVec.ofNat 32 e.val := by
  unfold table
  pointwise
  rw [h]
  exact wrap (by omega) _

/-! ## The result -/

/-- The gated scores of a whole array of scores: the scatter of the greatest ones into zeros. -/
abbrev gated (x : FVec Ideal S16384x4x8 .f32) : FVec Ideal S16384x4x8 .f32 :=
  Host.scatter put (fun _ b => b) (broadcastInDim S16384x4x8 ![] bcast_S_S16384x4x8 (constant S_ .f32 0x00000000#32)) (table (top x).2)
    (top x).1

/-- An entry of it is the gated score. -/
theorem gated_apply (x : FVec Ideal S16384x4x8 .f32) (u : Fin 16384) (p : Fin 4) (e : Fin 8) :
    gated x (ix3 u p e) = Top1.gate (scores x u p) e :=
  scatter_apply x _ (fun i => by pointwise) _ _ (chosen x) (table_0 _) (table_1 _)
    (fun u p => table_2 _ u p _ (top_index x u p)) (chosen_isFirst x) (top_value x) u p e

/-- The scores of every token, as the reference computes them from the reshaped arguments. -/
abbrev allScores (x : FVec Ideal S16384x768 .f32) (w : FVec Ideal S768x32 .f32) : FVec Ideal S16384x4x8 .f32 :=
  shapeCast _ (Host.dotGeneral dot_S16384x768_S768x32_S16384x32_1_0_0_1_n_n none x w) shapeCasts_S16384x32_S16384x4x8

/-- The score of token `u` for expert `e` of group `p` is the inner product. -/
theorem allScores_apply (x : FVec Ideal S16384x768 .f32) (w : FVec Ideal S768x32 .f32) (u : Fin 16384) (p : Fin 4) (e : Fin 8) :
    allScores x w (ix3 u p e) = ∑ k : Fin 768, x (ix2 u k) * w (ix2 k ⟨p.val * 8 + e.val, by omega⟩) := by
  pointwise

/-- The reference before its last reshape is the expert layer of the reshaped arguments. -/
theorem layer_eq (x : FVec Ideal S16384x768 .f32) (w : FVec Ideal S768x32 .f32) (v : FVec Ideal S32x768 .f32) :
    Host.dotGeneral dot_S16384x32_S32x768_S16384x768_1_0_0_1_n_n none
        (shapeCast _ (gated (allScores x w)) shapeCasts_S16384x4x8_S16384x32) v
      = Spec.layer 16384 x w v := by
  have hz : ∀ (z : FVec Ideal S16384x4x8 .f32) (u : Fin 16384) (o : Fin 768),
      Host.dotGeneral dot_S16384x32_S32x768_S16384x768_1_0_0_1_n_n none (shapeCast _ z shapeCasts_S16384x4x8_S16384x32) v (ix2 u o)
        = ∑ q : Fin 32, z (ix3 u ⟨q.val / 8, by omega⟩ ⟨q.val % 8, by omega⟩) * v (ix2 q o) := fun z u o => by
    pointwise
  funext j
  obtain ⟨u, o, rfl⟩ : ∃ (u : Fin 16384) (o : Fin 768), j = ix2 u o := ⟨j 0, j 1, funext fun a => by fin_cases a <;> rfl⟩
  rw [hz]
  unfold Spec.layer Spec.feature
  refine Finset.sum_congr rfl fun q _ => congrArg (· * v (ix2 q o)) ?_
  rw [gated_apply]
  exact congrArg (fun g => Top1.gate g ⟨q.val % 8, by omega⟩) (funext fun e => allScores_apply x w u ⟨q.val / 8, by omega⟩ e)

end Cert.RefValue

end
-- ==== Proof.lean ====
/-
  THE CLAIMS, assembled. The kernel is a mixture of 32 experts in four groups of eight with one expert chosen in each
  group. Where each part is:

    * `Top1`: choosing the first greatest of eight scores, described as the program's sort, and as the kernel's maximum
      and smallest position;
    * `Spec`: the expert layer both programs compute;
    * `Block`: what one block of the kernel computes;
    * `Run`: what the kernel's run leaves in the result array;
    * `RefValue`: what the reference computes.

  Nothing is assumed of the arguments.
-/
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import Idealize.ShloMosaic.Lib.Quiescent
public import proofs.«01_k».proof.Proof.Run
public import proofs.«01_k».proof.Proof.RefValue

@[expose] public section

noncomputable section

namespace Cert.Proof

open Idealize.ShloMosaic Idealize.ShloMosaic.TcCoe Idealize.SL.Sem

/-- The kernel runs, leaves its arguments unchanged, and every counter ends at zero. -/
theorem frame_kernel : Cert.quiescent_Kernel := fun m ρ _ => Cert.Kernel.Gen.frame m ρ

/-- So does the kernel read over the extended reals. -/
theorem frame_kernelIdeal : Cert.quiescent_KernelIdeal := fun m ρ _ => Cert.KernelIdeal.Gen.frame m ρ

/-- So does the reference, which has no counter. -/
theorem frame_referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- No operation of the kernel was replaced. -/
theorem preserves : Cert.preserves_Kernel_KernelIdeal := trivial

/-- From equal arguments, the kernel read over the extended reals and the reference end with equal results: the expert
    layer of the reshaped arguments, reshaped. -/
theorem algebraic : Cert.algebraic_KernelIdeal_ReferenceIdeal := by
  intro m ρ m' ρ' _ hagree
  refine ⟨fun c => Cert.Run.value (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)), Cert.Run.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact congrArg (fun z => shapeCast Cert.KernelIdeal.S4x4096x768 z Cert.KernelIdeal.Gen.facts.shapeCasts_S16384x768_S4x4096x768)
    (Cert.RefValue.layer_eq _ _ _)

/-- Everything claimed. -/
theorem claim : Cert.Claim :=
  ⟨Cert.Kernel.Gen.facts, Cert.KernelIdeal.Gen.facts, Cert.ReferenceIdeal.Gen.facts, frame_kernel, frame_kernelIdeal,
    frame_referenceIdeal, preserves, algebraic⟩

end Cert.Proof

end
